-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_three_distinct [hPre_top_three_distinct : Cert.Pre_top_three_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_three_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_three_distinct [hPre_top_three_distinct : Cert.Pre_top_three_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_three_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_top_three_distinct [hKernelIdeal : Cert.KernelIdeal.Facts] [hPre_top_three_distinct : Cert.Pre_top_three_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_three_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_top_three_distinct [hReferenceIdeal : Cert.ReferenceIdeal.Facts] [hPre_top_three_distinct : Cert.Pre_top_three_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_three_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_count" .f32 0x3ADEE95C#32 ((588⁻¹ : ℝ) : EReal)

def algebraic_KernelIdeal_ReferenceIdeal_pre_top_three_distinct [hKernelIdeal : Cert.KernelIdeal.Facts] [hReferenceIdeal : Cert.ReferenceIdeal.Facts] [hPre_top_three_distinct : Cert.Pre_top_three_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_three_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_top_three_distinct : Cert.Pre_top_three_distinct.Facts),
    quiescent_Kernel (hKernel := hKernel)
    ∧ quiescent_KernelIdeal (hKernelIdeal := hKernelIdeal)
    ∧ quiescent_KernelIdeal_pre_top_three_distinct (hKernelIdeal := hKernelIdeal) (hPre_top_three_distinct := hPre_top_three_distinct)
    ∧ quiescent_ReferenceIdeal (hReferenceIdeal := hReferenceIdeal)
    ∧ quiescent_ReferenceIdeal_pre_top_three_distinct (hReferenceIdeal := hReferenceIdeal) (hPre_top_three_distinct := hPre_top_three_distinct)
    ∧ preserves_Kernel_KernelIdeal
    ∧ algebraic_KernelIdeal_ReferenceIdeal_pre_top_three_distinct (hKernelIdeal := hKernelIdeal) (hReferenceIdeal := hReferenceIdeal) (hPre_top_three_distinct := hPre_top_three_distinct)
-- ==== Pre_top_three_distinct.lean ====
abbrev S4x15x196x384 : Shape := ⟨4, ![4, 15, 196, 384]⟩
abbrev S4x5x5x196x384 : Shape := ⟨5, ![4, 5, 5, 196, 384]⟩
abbrev S4x5x980x384 : Shape := ⟨4, ![4, 5, 980, 384]⟩
abbrev S4x5x980x15x196 : Shape := ⟨5, ![4, 5, 980, 15, 196]⟩
abbrev S4x15x5x196x980 : Shape := ⟨5, ![4, 15, 5, 196, 980]⟩
abbrev S4x15x5x196x3 : Shape := ⟨5, ![4, 15, 5, 196, 3]⟩
abbrev S4x15x5x196x1 : Shape := ⟨5, ![4, 15, 5, 196, 1]⟩
abbrev S4x15x5x196 : Shape := ⟨4, ![4, 15, 5, 196]⟩
abbrev S_ : Shape := ⟨0, ![]⟩

class Facts : Prop where
  shapeCasts_S4x5x5x196x384_S4x5x980x384 : S4x5x5x196x384.ShapeCasts S4x5x980x384
  transposes_S4x5x980x15x196_S4x15x5x196x980_0_3_1_4_2 : S4x5x980x15x196.Transposes [0, 3, 1, 4, 2] S4x15x5x196x980
  sliceFits_S4x15x5x196x980_S4x15x5x196x3 : S4x15x5x196x980.Slices (fun _ => 0) S4x15x5x196x3
  slices_S4x15x5x196x3_S4x15x5x196x1_0_0_0_0_0 : S4x15x5x196x3.Slices ![0, 0, 0, 0, 0] S4x15x5x196x1
  shapeCasts_S4x15x5x196x1_S4x15x5x196 : S4x15x5x196x1.ShapeCasts S4x15x5x196
  slices_S4x15x5x196x3_S4x15x5x196x1_0_0_0_0_1 : S4x15x5x196x3.Slices ![0, 0, 0, 0, 1] S4x15x5x196x1
  slices_S4x15x5x196x3_S4x15x5x196x1_0_0_0_0_2 : S4x15x5x196x3.Slices ![0, 0, 0, 0, 2] S4x15x5x196x1
  reducesTo_S4x15x5x196_S_d0_1_2_3 : S4x15x5x196.ReducesTo [0, 1, 2, 3] S_
  h_S_ : 0 < S_.numel
  dot_S4x5x980x384_S4x15x196x384_S4x5x980x15x196_3_3_12_12_0_0_wf : DotDims.WF S4x5x980x384 S4x15x196x384 S4x5x980x15x196 [3] [3] [1, 2] [1, 2] [0] [0]

variable [Facts]

def dot_S4x5x980x384_S4x15x196x384_S4x5x980x15x196_3_3_12_12_0_0 : DotDims S4x5x980x384 S4x15x196x384 S4x5x980x15x196 where
  lhsContracting := [3]
  rhsContracting := [3]
  lhsNonContracting := [1, 2]
  rhsNonContracting := [1, 2]
  lhsBatch := [0]
  rhsBatch := [0]
  wf := dot_S4x5x980x384_S4x15x196x384_S4x5x980x15x196_3_3_12_12_0_0_wf
def fn {F : FTy → Type} [FloatOps F] (main_arg0 : FVec F S4x15x196x384 .f32) (main_arg1 : FVec F S4x5x5x196x384 .f32) : IVec S_ 1 :=
  let main_v0 : FVec F S4x5x980x384 .f32 := shapeCast S4x5x980x384 main_arg1 shapeCasts_S4x5x5x196x384_S4x5x980x384
  let main_v1 : FVec F S4x5x980x15x196 .f32 := (fun l r => Host.dotGeneral dot_S4x5x980x384_S4x15x196x384_S4x5x980x15x196_3_3_12_12_0_0 none l r) main_v0 main_arg0
  let main_v2 : FVec F S4x15x5x196x980 .f32 := (transpose S4x15x5x196x980 [0, 3, 1, 4, 2] · transposes_S4x5x980x15x196_S4x15x5x196x980_0_3_1_4_2) main_v1
  let main_values : FVec F S4x15x5x196x3 .f32 := (fun x => (Host.topK S4x15x5x196x3 4 (FloatOps.cmpfTotal .gt) x sliceFits_S4x15x5x196x980_S4x15x5x196x3).1) main_v2
  let main_indices : IVec S4x15x5x196x3 32 := (fun x => (Host.topK S4x15x5x196x3 4 (FloatOps.cmpfTotal .gt) x sliceFits_S4x15x5x196x980_S4x15x5x196x3).2) main_v2
  let main_v3 : FVec F S4x15x5x196x1 .f32 := (extractStridedSlice S4x15x5x196x1 ![0, 0, 0, 0, 0] · slices_S4x15x5x196x3_S4x15x5x196x1_0_0_0_0_0) main_values
  let main_v4 : FVec F S4x15x5x196 .f32 := shapeCast S4x15x5x196 main_v3 shapeCasts_S4x15x5x196x1_S4x15x5x196
  let main_v5 : FVec F S4x15x5x196x1 .f32 := (extractStridedSlice S4x15x5x196x1 ![0, 0, 0, 0, 1] · slices_S4x15x5x196x3_S4x15x5x196x1_0_0_0_0_1) main_values
  let main_v6 : FVec F S4x15x5x196 .f32 := shapeCast S4x15x5x196 main_v5 shapeCasts_S4x15x5x196x1_S4x15x5x196
  let main_v7 : IVec S4x15x5x196 1 := cmpf .ogt main_v4 main_v6
  let main_v8 : FVec F S4x15x5x196x1 .f32 := (extractStridedSlice S4x15x5x196x1 ![0, 0, 0, 0, 1] · slices_S4x15x5x196x3_S4x15x5x196x1_0_0_0_0_1) main_values
  let main_v9 : FVec F S4x15x5x196 .f32 := shapeCast S4x15x5x196 main_v8 shapeCasts_S4x15x5x196x1_S4x15x5x196
  let main_v10 : FVec F S4x15x5x196x1 .f32 := (extractStridedSlice S4x15x5x196x1 ![0, 0, 0, 0, 2] · slices_S4x15x5x196x3_S4x15x5x196x1_0_0_0_0_2) main_values
  let main_v11 : FVec F S4x15x5x196 .f32 := shapeCast S4x15x5x196 main_v10 shapeCasts_S4x15x5x196x1_S4x15x5x196
  let main_v12 : IVec S4x15x5x196 1 := cmpf .ogt main_v9 main_v11
  let main_v13 : IVec S4x15x5x196 1 := andi main_v7 main_v12
  let main_c : IVec S_ 1 := constantI S_ 1 1#1
  let main_v14 : IVec S_ 1 := (fun x v => Host.reduce IntOp.andi x v reducesTo_S4x15x5x196_S_d0_1_2_3 h_S_) main_v13 main_c
  main_v14
-- ==== Kernel.lean ====
abbrev S4x15x196x384 : Shape := ⟨4, ![4, 15, 196, 384]⟩
abbrev S4x5x5x196x384 : Shape := ⟨5, ![4, 5, 5, 196, 384]⟩
abbrev S4x3x980x384 : Shape := ⟨4, ![4, 3, 980, 384]⟩
abbrev S4x5x980x384 : Shape := ⟨4, ![4, 5, 980, 384]⟩
abbrev S4x3x5x5 : Shape := ⟨4, ![4, 3, 5, 5]⟩
abbrev S1x1x980x384 : Shape := ⟨4, ![1, 1, 980, 384]⟩
abbrev S1x5x980x384 : Shape := ⟨4, ![1, 5, 980, 384]⟩
abbrev S1x1x5x5 : Shape := ⟨4, ![1, 1, 5, 5]⟩
abbrev S980x384 : Shape := ⟨2, ![980, 384]⟩
abbrev S980x980 : Shape := ⟨2, ![980, 980]⟩
abbrev S980 : Shape := ⟨1, ![980]⟩
abbrev S980x1 : Shape := ⟨2, ![980, 1]⟩
abbrev S980x5 : Shape := ⟨2, ![980, 5]⟩
abbrev S5x980 : Shape := ⟨2, ![5, 980]⟩
abbrev S5x5 : Shape := ⟨2, ![5, 5]⟩
abbrev S60x5 : Shape := ⟨2, ![60, 5]⟩

abbrev nBuf : Space → Nat
  | .hbm => 6
  | .vmem => 6
  | .smem => 0
  | _ => 0

abbrev bufTy : (tb : Table) → Fin (tcTables nBuf tb) → BufTy
  | .hbm, ⟨0, _⟩ => ⟨S4x15x196x384, .f32⟩
  | .hbm, ⟨1, _⟩ => ⟨S4x5x5x196x384, .f32⟩
  | .hbm, ⟨2, _⟩ => ⟨S4x3x980x384, .f32⟩
  | .hbm, ⟨3, _⟩ => ⟨S4x5x980x384, .f32⟩
  | .hbm, ⟨4, _⟩ => ⟨S4x3x5x5, .f32⟩
  | .hbm, ⟨5, _⟩ => ⟨S60x5, .f32⟩
  | .local _ .vmem, ⟨0, _⟩ => ⟨S1x1x980x384, .f32⟩
  | .local _ .vmem, ⟨1, _⟩ => ⟨S1x1x980x384, .f32⟩
  | .local _ .vmem, ⟨2, _⟩ => ⟨S1x5x980x384, .f32⟩
  | .local _ .vmem, ⟨3, _⟩ => ⟨S1x5x980x384, .f32⟩
  | .local _ .vmem, ⟨4, _⟩ => ⟨S1x1x5x5, .f32⟩
  | .local _ .vmem, ⟨5, _⟩ => ⟨S1x1x5x5, .f32⟩
  | _, _ => ⟨S4x15x196x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x980x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x980x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x5x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "inv_count" => some ((588⁻¹ : ℝ) : EReal)
  | _ => none
-- ==== ReferenceIdeal.lean ====
abbrev S4x15x196x384 : Shape := ⟨4, ![4, 15, 196, 384]⟩
abbrev S4x5x5x196x384 : Shape := ⟨5, ![4, 5, 5, 196, 384]⟩
abbrev S4x5x980x384 : Shape := ⟨4, ![4, 5, 980, 384]⟩
abbrev S4x5x980x15x196 : Shape := ⟨5, ![4, 5, 980, 15, 196]⟩
abbrev S4x15x5x196x980 : Shape := ⟨5, ![4, 15, 5, 196, 980]⟩
abbrev S4x15x5x196x3 : Shape := ⟨5, ![4, 15, 5, 196, 3]⟩
abbrev S_ : Shape := ⟨0, ![]⟩
abbrev S4x15x5 : Shape := ⟨3, ![4, 15, 5]⟩
abbrev S60x5 : Shape := ⟨2, ![60, 5]⟩

abbrev nBuf : Space → Nat
  | .hbm => 13
  | .vmem => 0
  | .smem => 0
  | _ => 0

abbrev bufTy : (tb : Table) → Fin (tcTables nBuf tb) → BufTy
  | .hbm, ⟨0, _⟩ => ⟨S4x15x196x384, .f32⟩
  | .hbm, ⟨1, _⟩ => ⟨S4x5x5x196x384, .f32⟩
  | .hbm, ⟨2, _⟩ => ⟨S4x5x980x384, .f32⟩
  | .hbm, ⟨3, _⟩ => ⟨S4x5x980x15x196, .f32⟩
  | .hbm, ⟨4, _⟩ => ⟨S4x15x5x196x980, .f32⟩
  | .hbm, ⟨5, _⟩ => ⟨S4x15x5x196x3, .f32⟩
  | .hbm, ⟨6, _⟩ => ⟨S4x15x5x196x3, .i32⟩
  | .hbm, ⟨7, _⟩ => ⟨S_, .f32⟩
  | .hbm, ⟨8, _⟩ => ⟨S4x15x5, .f32⟩
  | .hbm, ⟨9, _⟩ => ⟨S_, .f32⟩
  | .hbm, ⟨10, _⟩ => ⟨S4x15x5, .f32⟩
  | .hbm, ⟨11, _⟩ => ⟨S4x15x5, .f32⟩
  | .hbm, ⟨12, _⟩ => ⟨S60x5, .f32⟩
  | _, _ => ⟨S4x15x196x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.TopThree.lean ====
/-
  The mathematics of one row: the sum of its three greatest entries, taken two ways.

  The kernel takes the row's maximum, hides every entry equal to it, takes the maximum again, hides every entry at least that,
  and takes the maximum a third time (`peel` adds the three). The reference sorts the row, greater first, and keeps the
  first three entries. The two agree on every row whose three first sorted entries are distinct (`peel_eq_sorted`).
-/
module

public import Idealize.ShloMosaic.PureOps.Ideal
public import Idealize.ShloMosaic.Lib.SortFacts

@[expose] public section

noncomputable section

namespace Cert.TopThree

open Idealize.ShloMosaic

variable {n : ℕ}

/-- The maximum of a row (`⊥` for the empty row). -/
def rowMax (x : Fin n → EReal) : EReal := Finset.univ.sup x

/-- The maximum of the row with every copy of its maximum hidden. -/
def second (x : Fin n → EReal) : EReal := rowMax fun j => if x j = rowMax x then ⊥ else x j

/-- The maximum of the row with every entry at least `second` hidden. -/
def third (x : Fin n → EReal) : EReal := rowMax fun j => if second x ≤ x j then ⊥ else x j

/-- The sum of the three maxima. -/
def peel (x : Fin n → EReal) : EReal := rowMax x + second x + third x

/-- A value that some entry has and that no entry exceeds is the maximum. -/
theorem rowMax_eq {x : Fin n → EReal} {v : EReal} (j : Fin n) (hj : x j = v) (h : ∀ i, x i ≤ v) : rowMax x = v :=
  le_antisymm (Finset.sup_le fun i _ => h i) (hj ▸ Finset.le_sup (f := x) (Finset.mem_univ j))

/-- The comparison that sorts a row, greater first. -/
abbrev before (x : Fin n → EReal) (i j : Fin n) : Bool :=
  FloatOps.cmpfTotal (F := Ideal) (φ := .f32) .gt (x i) (x j) == 1#1

/-- The row sorted, greater first: the entry at position `k`. -/
def sorted (x : Fin n → EReal) (k : Fin n) : EReal := x (sortedFrom (before x) k)

theorem before_eq (x : Fin n → EReal) (i j : Fin n) : before x i j = decide (x j < x i) := by
  show ((BitVec.ofBool (decide (x j < x i))) == 1#1) = decide (x j < x i)
  by_cases h : x j < x i <;> simp [h]

/-- The sorted row descends. -/
theorem sorted_le (x : Fin n → EReal) {i j : Fin n} (h : i ≤ j) : sorted x j ≤ sorted x i := by
  rcases h.eq_or_lt with rfl | h
  · exact le_rfl
  have key := sortedFrom_noInversion (before x) (before x)
    (fun a b hab => by
      rw [before_eq, decide_eq_true_eq] at hab
      rw [before_eq, decide_eq_false_iff_not]; exact hab.le.not_gt)
    (fun _ _ h => h)
    (fun a b c hab hbc => by
      rw [before_eq, decide_eq_false_iff_not, not_lt] at hab hbc ⊢; exact hab.trans hbc) i j h
  rw [before_eq, decide_eq_false_iff_not, not_lt] at key
  exact key

/-- Every entry of the row stands somewhere in the sorted row. -/
theorem exists_sorted (x : Fin n → EReal) (i : Fin n) : ∃ k, sortedFrom (before x) k = i :=
  sortedFrom_surjective _ i

/-- If the first three sorted entries descend strictly, the three maxima are those entries, so their sums agree. -/
theorem peel_eq_sorted (x : Fin n → EReal) {k₀ k₁ k₂ : Fin n} (e₀ : k₀.val = 0) (e₁ : k₁.val = 1) (e₂ : k₂.val = 2)
    (h₀ : sorted x k₁ < sorted x k₀) (h₁ : sorted x k₂ < sorted x k₁) :
    peel x = sorted x k₀ + sorted x k₁ + sorted x k₂ := by
  have m₁ : rowMax x = sorted x k₀ := rowMax_eq _ rfl fun i => by
    obtain ⟨k, rfl⟩ := exists_sorted x i
    exact sorted_le x (Fin.le_def.2 (by omega))
  have m₂ : second x = sorted x k₁ := by
    unfold second
    rw [m₁]
    refine rowMax_eq (sortedFrom (before x) k₁) (if_neg h₀.ne) fun i => ?_
    obtain ⟨k, rfl⟩ := exists_sorted x i
    by_cases hk : k = k₀
    · subst hk; exact (if_pos (show x (sortedFrom (before x) k) = sorted x k from rfl)).trans_le bot_le
    · split
      · exact bot_le
      · exact sorted_le x (Fin.le_def.2 (by have := Fin.val_ne_of_ne hk; omega))
  have m₃ : third x = sorted x k₂ := by
    unfold third
    rw [m₂]
    refine rowMax_eq (sortedFrom (before x) k₂) (if_neg h₁.not_ge) fun i => ?_
    obtain ⟨k, rfl⟩ := exists_sorted x i
    by_cases hk : k ≤ k₁
    · exact (if_pos (show sorted x k₁ ≤ x (sortedFrom (before x) k) from sorted_le x hk)).trans_le bot_le
    · split
      · exact bot_le
      · exact sorted_le x (Fin.le_def.2 (by have := mt Fin.le_def.2 hk; omega))
  unfold peel
  rw [m₁, m₂, m₃]

end Cert.TopThree

end
-- ==== Proof.Column.lean ====
/-
  What the kernel computes for one way of one block: the 980 × 980 array of products of every query row with every
  support row of the way, and the column holding, for each query row, the sum of its three maxima (`column_apply`:
  `TopThree.peel` of the row). The kernel's text repeats these operations for each of the five ways.
-/
module

public import proofs.«01_k».proof.Proof.TopThree
public import proofs.«01_k».proof.Proof.Gen.KernelIdeal.Skeleton
public import Idealize.ShloMosaic.Lib.ValueIdx
public import Idealize.ShloMosaic.Lib.MatmulPlain
public import Idealize.ShloMosaic.Lib.Pointwise.Select
public import Idealize.ShloMosaic.Lib.Pipeline.Value

@[expose] public section

set_option maxRecDepth 16384

noncomputable section

namespace Cert.Column

open Idealize.ShloMosaic hiding ix0 ix1 ix2 ix3 ix4 ix5 eq_ix1 eq_ix2 eq_ix3 eq_ix4 eq_ix5
open Idealize.ShloMosaic.ValueIdx Cert.TopThree
open Cert.KernelIdeal Cert.KernelIdeal.Gen Cert.KernelIdeal.Facts
open scoped BigOperators

/-- The products of one way: every row of the query block with every row of the way's support block. -/
def products (q : FVec Ideal S980x384 .fp8e4m3) (s : FVec Ideal S1x1x980x384 .f32) : FVec Ideal S980x980 .bf16 :=
  truncf .bf16 (matmul dot_S980x384_S980x384_S980x980_1_1_0_0_n_n none q
    (truncf .fp8e4m3 (shapeCast S980x384 s shapeCasts_S1x1x980x384_S980x384) bitsLt_fp8e4m3_f32)
    (constant S980x980 .f32 0x00000000#32)) bitsLt_bf16_f32

/-- The row maxima of a square array, as a column. -/
def maxima (m : FVec Ideal S980x980 .bf16) : FVec Ideal S980x1 .bf16 :=
  shapeCast S980x1 (multiReduction .maximumf [1] S980 m 0xFF80#16 reduces_S980x980_S980 (.inr rfl) rfl) shapeCasts_S980_S980x1

/-- The array with the entries that compare `p` with their row's entry of the column `c` replaced by the least value. -/
def masked (p : CmpFPredicate) (m : FVec Ideal S980x980 .bf16) (c : FVec Ideal S980x1 .bf16) : FVec Ideal S980x980 .bf16 :=
  select (cmpf p m (broadcastTo S980x980 c broadcasts_S980x1_S980x980))
    (broadcast S980x980 (Scalar.ofBits (F := Ideal) .bf16 0xFF80#16)) m

/-- The sum of the three successive row maxima, as a column. -/
def column (m : FVec Ideal S980x980 .bf16) : FVec Ideal S980x1 .bf16 :=
  addf (addf (maxima m) (maxima (masked .oeq m (maxima m))))
    (maxima (masked .oge m (maxima (masked .oeq m (maxima m)))))

/-- The least value of the format reads as the least extended real. -/
theorem least : FloatOps.ofBits (F := Ideal) .bf16 0xFF80#16 = (⊥ : EReal) := by
  show Ideal.ofBits .bf16 0xFF80#16 = ⊥
  simp [Ideal.ofBits, Ideal.ieee]

/-- A product at an index: the dot product of the two rows. -/
theorem products_apply (q : FVec Ideal S980x384 .fp8e4m3) (s : FVec Ideal S1x1x980x384 .f32) (r j : Fin 980) :
    products q s (ix2 r j) = ∑ d : Fin 384, q (ix2 r d) * s (ix4 0 0 j d) := by
  show FloatOps.matmul (DotDims.transposedRhs 980 384 980) none q
    (truncf .fp8e4m3 (shapeCast S980x384 s shapeCasts_S1x1x980x384_S980x384) bitsLt_fp8e4m3_f32)
    (constant S980x980 .f32 0x00000000#32) (ix2 r j) = _
  rw [Ideal.matmul_transposedRhs_apply]
  have z : (constant S980x980 .f32 0x00000000#32 : FVec Ideal S980x980 .f32) (ix2 r j) = (0 : EReal) := Ideal.ofBits_zero .f32
  rw [z, zero_add]
  refine Finset.sum_congr rfl fun d _ => congrArg (q (ix2 r d) * ·) ?_
  refine (truncf_apply _ bitsLt_fp8e4m3_f32 _).trans (shapeCast_apply s _ _ (ix4 0 0 j d) ?_)
  rw [Shape.rowMajor_val_four, Shape.rowMajor_val_two]
  show ((0 * 1 + 0) * 980 + j.val) * 384 + d.val = j.val * 384 + d.val
  omega

/-- An entry of the column of maxima: the greatest entry of the row. -/
theorem maxima_apply (m : FVec Ideal S980x980 .bf16) (r : Fin 980) :
    maxima m (ix2 r 0) = rowMax fun j : Fin 980 => m (ix2 r j) := by
  unfold maxima
  refine (shapeCast_apply _ _ _ (ix1 r) ?_).trans ?_
  · rw [Shape.rowMajor_val_one, Shape.rowMajor_val_two]
    show r.val = r.val * 1 + 0
    omega
  refine (Ideal.multiReduction_maximumf_single m _ _ _ _ _).trans ?_
  rw [least]
  unfold rowMax
  have e : m ∘ (reduces_S980x980_S980).lift (ix1 r) = fun j : Fin 980 => m (ix2 r j) := by
    funext j
    refine congrArg m (funext fun a => ?_)
    match a with
    | ⟨0, _⟩ => rfl
    | ⟨1, _⟩ => rfl
  rw [e]
  rfl

/-- The column broadcast along the rows: each row's entry. -/
theorem spread_apply (c : FVec Ideal S980x1 .bf16) (r j : Fin 980) :
    broadcastTo S980x980 c broadcasts_S980x1_S980x980 (ix2 r j) = c (ix2 r 0) :=
  broadcastTo_apply c _ _ _ fun a => by
    match a with
    | ⟨0, _⟩ => rfl
    | ⟨1, _⟩ => rfl

/-- The array with each row's entries equal to the column's entry removed. -/
theorem masked_oeq_apply (m : FVec Ideal S980x980 .bf16) (c : FVec Ideal S980x1 .bf16) (r j : Fin 980) :
    masked .oeq m c (ix2 r j) = if m (ix2 r j) = c (ix2 r 0) then ⊥ else m (ix2 r j) := by
  unfold masked
  rw [select_apply, cmpf_apply, spread_apply]
  refine if_congr (Ideal.cmp_oeq_eq_one _ _) least rfl

/-- The array with each row's entries at or above the column's entry removed. -/
theorem masked_oge_apply (m : FVec Ideal S980x980 .bf16) (c : FVec Ideal S980x1 .bf16) (r j : Fin 980) :
    masked .oge m c (ix2 r j) = if c (ix2 r 0) ≤ m (ix2 r j) then ⊥ else m (ix2 r j) := by
  unfold masked
  rw [select_apply, cmpf_apply, spread_apply]
  refine if_congr (Ideal.cmp_oge_eq_one _ _) least rfl

/-- An entry of the kernel's column: the sum of the three maxima of the row. -/
theorem column_apply (m : FVec Ideal S980x980 .bf16) (r : Fin 980) :
    column m (ix2 r 0) = peel fun j : Fin 980 => m (ix2 r j) := by
  have e₂ : maxima (masked .oeq m (maxima m)) (ix2 r 0) = second fun j : Fin 980 => m (ix2 r j) := by
    rw [maxima_apply]
    refine congrArg rowMax (funext fun j => ?_)
    rw [masked_oeq_apply, maxima_apply]
  have e₃ : maxima (masked .oge m (maxima (masked .oeq m (maxima m)))) (ix2 r 0) = third fun j : Fin 980 => m (ix2 r j) := by
    rw [maxima_apply]
    refine congrArg rowMax (funext fun j => ?_)
    rw [masked_oge_apply, e₂]
  exact congrArg₂ (· + ·) (congrArg₂ (· + ·) (maxima_apply m r) e₂) e₃

/-! The five columns as the kernel's text cuts them. -/

/-- The first way's column. -/
theorem way0_eq (q s : FVec Ideal S1x1x980x384 .f32) : k0_pay3 (F := Ideal) q s = column (products (k0_pay2 (F := Ideal) q) s) := rfl

/-- The second way's column. -/
theorem way1_eq (q s : FVec Ideal S1x1x980x384 .f32) :
    k0_pay7 (F := Ideal) (k0_pay4 q s) (k0_pay5 q s) (k0_pay6 q s) = column (products (k0_pay2 (F := Ideal) q) s) := rfl

/-- The third way's column. -/
theorem way2_eq (q : FVec Ideal S980x384 .fp8e4m3) (s : FVec Ideal S1x1x980x384 .f32) :
    k0_pay8 (F := Ideal) q s = column (products q s) := rfl

/-- The last two ways' columns, laid with the first three's side by side. -/
theorem columns_eq (q : FVec Ideal S980x384 .fp8e4m3) (c₀ c₁ c₂ : FVec Ideal S980x1 .bf16) (s₃ s₄ : FVec Ideal S1x1x980x384 .f32) :
    k0_pay12 (F := Ideal) q c₀ c₁ c₂ (k0_pay9 q s₃) (k0_pay10 q s₃) (k0_pay11 q s₃) s₄
      = concatenate S980x5 1 [⟨S980x1, c₀⟩, ⟨S980x1, c₁⟩, ⟨S980x1, c₂⟩, ⟨S980x1, column (products q s₃)⟩,
          ⟨S980x1, column (products q s₄)⟩] concatenates_S980x1_S980x1_S980x1_S980x1_S980x1_S980x5_d1 := rfl

end Cert.Column

end
-- ==== Proof.Group.lean ====
/-
  The kernel's 5 × 980 array of ones and zeros: entry (g, r) is one exactly when row `r` of the block belongs to query `g`
  of the block, that is when `r / 196 = g` (`indicator_apply`). The kernel finds `r / 196` by a signed division followed by
  a correction towards minus infinity, which never acts on these rows (`groupWord_eq`). Multiplying by this array adds
  each query's 196 rows (`sum_indicator`).
-/
module

public import proofs.«01_k».proof.Proof.Gen.KernelIdeal.Skeleton
public import Idealize.ShloMosaic.Lib.ValueIdx
public import Idealize.ShloMosaic.Lib.Pipeline.Value

@[expose] public section

set_option maxRecDepth 16384

noncomputable section

namespace Cert.Group

open Idealize.ShloMosaic Idealize.ShloMosaic.ValueIdx
open Cert.KernelIdeal Cert.KernelIdeal.Gen Cert.KernelIdeal.Facts
open scoped BigOperators

/-- The sign of a word, as the difference of two comparisons with zero. -/
def signWord (x : BitVec 32) : BitVec 32 :=
  IntOp.subi ((IntOp.cmpi .sgt x 0#32).setWidth 32) ((IntOp.cmpi .slt x 0#32).setWidth 32)

/-- The kernel's quotient of a word by 196, on words. -/
def groupWord (x : BitVec 32) : BitVec 32 :=
  Scalar.select
    (IntOp.andi (IntOp.cmpi .ne (signWord x) (signWord 196#32)) (IntOp.cmpi .ne (IntOp.remsi .vector x 196#32) 0#32))
    (IntOp.subi (IntOp.divsi .vector x 196#32) 1#32) (IntOp.divsi .vector x 196#32)

/-- On the block's row numbers the quotient is the natural one. -/
theorem groupWord_eq : ∀ r : Fin 980, groupWord (BitVec.ofNat 32 r.val) = BitVec.ofNat 32 (r.val / 196) := by
  decide +kernel

/-- The array of ones and zeros, as the kernel computes it. -/
def indicator : FVec Ideal S5x980 .bf16 :=
  truncf .bf16 (sitofp (F := Ideal) .f32 (extui 32 (cmpi .eq
    (select (andi (cmpi .ne k0_pay14 (broadcast S5x980 (signWord 196#32)))
        (cmpi .ne (remsi (iota .tc S5x980 32 [1] iota_S5x980_d1_w32) (broadcast S5x980 196#32)) (broadcast S5x980 0#32)))
      (subi k0_pay13 (broadcast S5x980 1#32)) k0_pay13)
    (iota .tc S5x980 32 [0] iota_S5x980_d0_w32)) natLt_1_32)) bitsLt_bf16_f32

/-- An entry is one when the row belongs to the query, zero otherwise. -/
theorem indicator_apply (g : Fin 5) (r : Fin 980) :
    indicator (ix2 g r) = if r.val / 196 = g.val then (1 : EReal) else 0 := by
  have e : indicator (ix2 g r) = (((((IntOp.cmpi .eq (groupWord (iota .tc S5x980 32 [1] iota_S5x980_d1_w32 (ix2 g r)))
      (iota .tc S5x980 32 [0] iota_S5x980_d0_w32 (ix2 g r))).setWidth 32).toInt : ℤ) : ℝ) : EReal) := rfl
  rw [e, iota_single_apply, iota_single_apply]
  show (((((IntOp.cmpi .eq (groupWord (BitVec.ofNat 32 r.val)) (BitVec.ofNat 32 g.val)).setWidth 32).toInt : ℤ) : ℝ) : EReal) = _
  rw [groupWord_eq]
  have words : (BitVec.ofNat 32 (r.val / 196) = BitVec.ofNat 32 g.val) ↔ r.val / 196 = g.val := by
    have hr := r.isLt
    have hg := g.isLt
    constructor
    · intro h
      have := congrArg BitVec.toNat h
      simp only [BitVec.toNat_ofNat] at this
      omega
    · intro h; rw [h]
  by_cases h : r.val / 196 = g.val
  · rw [if_pos h, h]
    have : IntOp.cmpi .eq (BitVec.ofNat 32 g.val) (BitVec.ofNat 32 g.val) = 1#1 := by simp [IntOp.cmpi]
    rw [this]
    simp
  · rw [if_neg h]
    have : IntOp.cmpi .eq (BitVec.ofNat 32 (r.val / 196)) (BitVec.ofNat 32 g.val) = 0#1 := by
      have hn := mt words.1 h
      simp only [IntOp.cmpi, beq_eq_false_iff_ne.2 hn]
      rfl
    rw [this]
    simp

/-- The row of the block holding patch `p` of the block's query `g`. -/
def row (g : Fin 5) (p : Fin 196) : Fin 980 := ⟨196 * g.val + p.val, by omega⟩

/-- Adding a column against the ones and zeros adds the query's 196 rows. -/
theorem sum_indicator (g : Fin 5) (f : Fin 980 → EReal) :
    (∑ r : Fin 980, (if r.val / 196 = g.val then (1 : EReal) else 0) * f r) = ∑ p : Fin 196, f (row g p) := by
  have e : ∀ r : Fin 980, (if r.val / 196 = g.val then (1 : EReal) else 0) * f r = if r.val / 196 = g.val then f r else 0 := by
    intro r
    split
    · exact one_mul _
    · exact zero_mul _
  simp only [e]
  rw [← Finset.sum_filter]
  refine (Finset.sum_nbij' (row g) (fun r => ⟨r.val % 196, Nat.mod_lt _ (by decide)⟩) ?_ ?_ ?_ ?_ ?_).symm
  · intro p _
    have := p.isLt
    exact Finset.mem_filter.2 ⟨Finset.mem_univ _, show (196 * g.val + p.val) / 196 = g.val by omega⟩
  · intro r _; exact Finset.mem_univ _
  · intro p _
    have := p.isLt
    exact Fin.ext (show (196 * g.val + p.val) % 196 = p.val by omega)
  · intro r hr
    have := (Finset.mem_filter.1 hr).2
    exact Fin.ext (show 196 * g.val + r.val % 196 = r.val by omega)
  · intro p _; rfl

end Cert.Group

end
-- ==== Proof.Block.lean ====
/-
  What one run of the kernel's body leaves in its 5 × 5 output block: at query `g` of the block and way `w`, the sum over the
  query's 196 rows of the three maxima of the row of products with the way's support rows, times 1/588 (`block_apply`).
-/
module

public import proofs.«01_k».proof.Proof.Column
public import proofs.«01_k».proof.Proof.Group
public import proofs.«01_k».proof.Proof.Gen.KernelIdeal.Frame
public import Idealize.ShloMosaic.Lib.Pipeline.ValueKit.Tiles

@[expose] public section

set_option maxRecDepth 16384

noncomputable section

namespace Cert.Block

open Idealize.ShloMosaic hiding ix0 ix1 ix2 ix3 ix4 ix5 eq_ix1 eq_ix2 eq_ix3 eq_ix4 eq_ix5
open Idealize.ShloMosaic.ValueIdx Cert.TopThree Cert.Column Cert.Group
open Cert.KernelIdeal Cert.KernelIdeal.Gen Cert.KernelIdeal.Facts
open scoped BigOperators

/-- The dot products of one row of the query block with the support rows of one way. -/
def score (q : FVec Ideal S1x1x980x384 .f32) (s : FVec Ideal S1x5x980x384 .f32) (w : Fin 5) (r : Fin 980) : Fin 980 → EReal :=
  fun j => ∑ d : Fin 384, s (ix4 0 w j d) * q (ix4 0 0 r d)

/-- The query block with its unit axes dropped, at an index. -/
theorem query_apply (q : FVec Ideal S1x1x980x384 .f32) (r : Fin 980) (d : Fin 384) :
    k0_pay2 (F := Ideal) q (ix2 r d) = q (ix4 0 0 r d) := by
  refine shapeCast_apply q shapeCasts_S1x1x980x384_S980x384 (ix2 r d) (ix4 0 0 r d) ?_
  rw [Shape.rowMajor_val_four, Shape.rowMajor_val_two]
  show ((0 * 1 + 0) * 980 + r.val) * 384 + d.val = r.val * 384 + d.val
  omega

/-- One way's column of the block, at an index: `s'` is the way's slice of the support block. -/
theorem way_apply (q : FVec Ideal S1x1x980x384 .f32) (s : FVec Ideal S1x5x980x384 .f32) (w : Fin 5)
    (s' : FVec Ideal S1x1x980x384 .f32) (hs : ∀ (j : Fin 980) (d : Fin 384), s' (ix4 0 0 j d) = s (ix4 0 w j d)) (r : Fin 980) :
    column (products (k0_pay2 (F := Ideal) q) s') (ix2 r 0) = peel (score q s w r) := by
  rw [column_apply]
  refine congrArg peel (funext fun j => ?_)
  rw [products_apply]
  refine Finset.sum_congr rfl fun d _ => ?_
  rw [query_apply, hs, mul_comm]

/-- Five columns side by side, at an index. -/
theorem beside_apply (c : Fin 5 → FVec Ideal S980x1 .bf16) (r : Fin 980) (w : Fin 5) :
    concatenate S980x5 1 [⟨S980x1, c 0⟩, ⟨S980x1, c 1⟩, ⟨S980x1, c 2⟩, ⟨S980x1, c 3⟩, ⟨S980x1, c 4⟩]
      concatenates_S980x1_S980x1_S980x1_S980x1_S980x1_S980x5_d1 (ix2 r w) = c w (ix2 r 0) := by
  refine concatenate_ofFn_unit_eq (t := S980x5) (s₁ := S980x1) 1 c
    concatenates_S980x1_S980x1_S980x1_S980x1_S980x1_S980x5_d1 (ix2 r w) _ rfl rfl ?_
  intro n i hn h0 hb
  obtain rfl : w = n := Fin.ext hn
  refine congrArg (c w) (funext fun a => Fin.ext ?_)
  match a with
  | ⟨0, _⟩ => exact hb 0 (by decide)
  | ⟨1, _⟩ => exact h0

/-- The kernel's last stage: the columns multiplied by the ones and zeros and by the named constant. -/
def scaled (v : FVec Ideal S980x5 .bf16) : FVec Ideal S1x1x5x5 .f32 :=
  shapeCast S1x1x5x5 (mulf (matmul dot_S5x980_S980x5_S5x5_1_0_0_1_n_n none indicator v (constant S5x5 .f32 0x00000000#32))
    (broadcast S5x5 (Named.named (F := Ideal) κ "inv_count" 0x3ADEE95C#32))) shapeCasts_S5x5_S1x1x5x5

/-- The last stage at an index. -/
theorem scaled_apply (v : FVec Ideal S980x5 .bf16) (g w : Fin 5) :
    scaled v (ix4 0 0 g w) = (∑ p : Fin 196, v (ix2 (row g p) w)) * ((588⁻¹ : ℝ) : EReal) := by
  unfold scaled
  refine (shapeCast_apply _ _ _ (ix2 g w) ?_).trans ?_
  · rw [Shape.rowMajor_val_two, Shape.rowMajor_val_four]
    show g.val * 5 + w.val = ((0 * 1 + 0) * 5 + g.val) * 5 + w.val
    omega
  rw [mulf_apply, broadcast_apply, show Named.named (F := Ideal) (φ := .f32) κ "inv_count" 0x3ADEE95C#32 = ((588⁻¹ : ℝ) : EReal) from
      IdealRules.named_const.ideal_named_scalar _ _ _ _ rfl]
  refine congrArg (· * _) ?_
  show FloatOps.matmul (DotDims.plain 5 980 5) none indicator v (constant S5x5 .f32 0x00000000#32) (ix2 g w) = _
  rw [Ideal.matmul_plain_apply]
  have z : (constant S5x5 .f32 0x00000000#32 : FVec Ideal S5x5 .f32) (ix2 g w) = (0 : EReal) := Ideal.ofBits_zero .f32
  rw [z, zero_add, ← sum_indicator g fun r => v (ix2 r w)]
  exact Finset.sum_congr rfl fun r _ => congrArg (· * v (ix2 r w)) (indicator_apply g r)

/-- The way slices of the support block, at an index. -/
theorem slice_apply (s : FVec Ideal S1x5x980x384 .f32) (off : Fin 4 → Nat) (w : Fin 5) (ho : off = ![0, w.val, 0, 0])
    (inb : ∀ a, off a + S1x1x980x384.size a ≤ S1x5x980x384.size a) (j : Fin 980) (d : Fin 384) :
    View.ld (Val := Elt Ideal) (e' := .f32) s (Rect.unit (s := S1x5x980x384) off S1x1x980x384.size inb) (ix4 0 0 j d) = s (ix4 0 w j d) := by
  subst ho
  refine View.ld_unit_apply_of (Val := Elt Ideal) (e := .f32) s _ _ _ _ _ fun a => ?_
  match a with
  | ⟨0, _⟩ => rfl
  | ⟨1, _⟩ => rfl
  | ⟨2, _⟩ => exact (Nat.zero_add _).symm
  | ⟨3, _⟩ => exact (Nat.zero_add _).symm

/-- The way's slice of the support block, as the body loads it. -/
def slice (s : FVec Ideal S1x5x980x384 .f32) : Fin 5 → FVec Ideal S1x1x980x384 .f32 :=
  let ld := fun r : Rect S1x5x980x384 => View.ld (Val := Elt Ideal) (e' := .f32) s r
  ![ld r0_1, ld r0_2, ld r0_3, ld r0_4, ld r0_5]

/-- Each slice holds the rows of its way. -/
theorem slice_eq (s : FVec Ideal S1x5x980x384 .f32) (w : Fin 5) (j : Fin 980) (d : Fin 384) :
    slice s w (ix4 0 0 j d) = s (ix4 0 w j d) := by
  match w with
  | ⟨0, _⟩ => exact slice_apply s _ 0 rfl _ j d
  | ⟨1, _⟩ => exact slice_apply s _ 1 rfl _ j d
  | ⟨2, _⟩ => exact slice_apply s _ 2 rfl _ j d
  | ⟨3, _⟩ => exact slice_apply s _ 3 rfl _ j d
  | ⟨4, _⟩ => exact slice_apply s _ 4 rfl _ j d

/-- The five columns of a block. -/
def columns (q : FVec Ideal S1x1x980x384 .f32) (s : FVec Ideal S1x5x980x384 .f32) : FVec Ideal S980x5 .bf16 :=
  let c : Fin 5 → FVec Ideal S980x1 .bf16 := fun w => column (products (k0_pay2 (F := Ideal) q) (slice s w))
  concatenate S980x5 1 [⟨S980x1, c 0⟩, ⟨S980x1, c 1⟩, ⟨S980x1, c 2⟩, ⟨S980x1, c 3⟩, ⟨S980x1, c 4⟩]
    concatenates_S980x1_S980x1_S980x1_S980x1_S980x1_S980x5_d1

/-- The body's output block is the last stage of the five columns. -/
theorem block_eq (q : FVec Ideal S1x1x980x384 .f32) (s : FVec Ideal S1x5x980x384 .f32) :
    out0_2 (F := Ideal) q s = scaled (columns q s) := by
  have h0 : View.ld (Val := Elt Ideal) (e' := .f32) q r0_0 = q :=
    View.ld_unit_zero (Val := Elt Ideal) (e := .f32) (S := S1x1x980x384) (by decide) inb_S1x1x980x384_S1x1x980x384_0_0_0_0 q
  unfold out0_2
  refine (View.canon_unit_zero (S := S1x1x5x5) (by decide) inb_S1x1x5x5_S1x1x5x5_0_0_0_0 _).trans ?_
  rw [show k0_pay15 (F := Ideal) q s = k0_pay2 (F := Ideal) (View.ld q r0_0) from rfl, h0, columns_eq, way0_eq, way1_eq, way2_eq]
  rfl

/-- The body's output block at an index. -/
theorem block_apply (q : FVec Ideal S1x1x980x384 .f32) (s : FVec Ideal S1x5x980x384 .f32) (g w : Fin 5) :
    out0_2 (F := Ideal) q s (ix4 0 0 g w) = (∑ p : Fin 196, peel (score q s w (row g p))) * ((588⁻¹ : ℝ) : EReal) := by
  rw [block_eq, scaled_apply]
  refine congrArg (· * _) (Finset.sum_congr rfl fun p _ => ?_)
  exact (beside_apply (fun w => column (products (k0_pay2 (F := Ideal) q) (slice s w))) (row g p) w).trans
    (way_apply q s w _ (slice_eq s w) (row g p))

end Cert.Block

end
-- ==== Proof.Spec.lean ====
/-
  The function both programs compute, over the extended reals.

  `Q` is the query array, `S` the support array with each way's five shots laid in one row axis of 980. For each batch `b`,
  query `q`, way `w` and query patch `p`, `score` is the row of 980 dot products; `mean` adds the three maxima of each of
  the 196 rows and multiplies by 1/588; `result` lays the means out as 60 queries by 5 ways.
-/
module

public import proofs.«01_k».proof.Proof.TopThree
public import Idealize.ShloMosaic.Lib.ValueIdxCore

@[expose] public section

noncomputable section

namespace Cert.Spec

open Idealize.ShloMosaic Idealize.ShloMosaic.ValueIdx Cert.TopThree
open scoped BigOperators

/-- The query array: 4 batches, 15 queries, 196 patches, 384 channels. -/
abbrev SQ : Shape := ⟨4, ![4, 15, 196, 384]⟩
/-- The support array: 4 batches, 5 ways, 980 patches, 384 channels. -/
abbrev SS : Shape := ⟨4, ![4, 5, 980, 384]⟩
/-- The result: 60 queries, 5 ways. -/
abbrev SR : Shape := ⟨2, ![60, 5]⟩

variable (Q : SQ.Idx → EReal) (S : SS.Idx → EReal)

/-- The dot products of one query patch with every support patch of one way. -/
def score (b : Fin 4) (q : Fin 15) (w : Fin 5) (p : Fin 196) : Fin 980 → EReal :=
  fun r => ∑ d : Fin 384, S (ix4 b w r d) * Q (ix4 b q p d)

/-- The mean, over the patches of a query, of the three maxima of each row of dot products. -/
def mean (b : Fin 4) (q : Fin 15) (w : Fin 5) : EReal :=
  (∑ p : Fin 196, peel (score Q S b q w p)) * ((588⁻¹ : ℝ) : EReal)

/-- The batch of result row `n`. -/
def batch (n : Fin 60) : Fin 4 := ⟨n.val / 15, by omega⟩
/-- The query, within its batch, of result row `n`. -/
def query (n : Fin 60) : Fin 15 := ⟨n.val % 15, by omega⟩

/-- The result array. -/
def result : SR.Idx → EReal := fun i => mean Q S (batch (i 0)) (query (i 0)) (i 1)

/-- The three greatest entries of every row of dot products are distinct. -/
def Distinct : Prop := ∀ b q w p,
  sorted (score Q S b q w p) 1 < sorted (score Q S b q w p) 0 ∧ sorted (score Q S b q w p) 2 < sorted (score Q S b q w p) 1

end Cert.Spec

end
-- ==== Proof.Array.lean ====
/-
  What the kernel's run leaves in its result array: `Spec.result` of the query array and the reshaped support array, from
  any memory (`run`). Block (b, j) of the 4 × 3 grid holds queries 5 j … 5 j + 4 of batch b; the 980 rows of its query block
  are those queries' patches, and its support block is batch b's whole support.
-/
module

public import proofs.«01_k».proof.Proof.Block
public import proofs.«01_k».proof.Proof.Spec
public import Idealize.ShloMosaic.Lib.Claim

@[expose] public section

set_option maxRecDepth 16384

noncomputable section

namespace Cert.Array

open Idealize.ShloMosaic hiding ix0 ix1 ix2 ix3 ix4 ix5 eq_ix1 eq_ix2 eq_ix3 eq_ix4 eq_ix5
open Idealize.ShloMosaic.ValueIdx Idealize.ShloMosaic.TcCoe Idealize.SL.Sem
open Cert.TopThree Cert.Group
open Cert.KernelIdeal Cert.KernelIdeal.Gen Cert.KernelIdeal.Facts
open scoped BigOperators

variable (m : (ℓ : Loc nD τ sig) → Buf (Elt Ideal) ℓ) (ρ : Dev nD → PrngReg)

/-- The query array as launched. -/
abbrev queries (c : Dev nD) : Spec.SQ.Idx → EReal := m ((c : Thread nD τ).loc main_arg0)

/-- The support array as launched, its shots and patches laid in one axis. -/
def support (c : Dev nD) : Spec.SS.Idx → EReal :=
  shapeCast S4x5x980x384 (m ((c : Thread nD τ).loc main_arg1) : S4x5x5x196x384.Idx → EReal) shapeCasts_S4x5x5x196x384_S4x5x980x384

/-- The region finds the query array regrouped, five queries' patches to an axis. -/
theorem V_queries (c : Dev nD) : (V m c main_v0 : S4x3x980x384.Idx → EReal)
    = shapeCast S4x3x980x384 (queries m c) shapeCasts_S4x15x196x384_S4x3x980x384 := by
  unfold V V0
  simp only [hostOps0, List.flatten_cons, List.flatten_nil, List.append_nil]
  after_results
  rfl

/-- The region finds the support array with its shots and patches in one axis. -/
theorem V_support (c : Dev nD) : (V m c main_v1 : S4x5x980x384.Idx → EReal) = support m c := by
  unfold V V0
  simp only [hostOps0, List.flatten_cons, List.flatten_nil, List.append_nil]
  after_results
  rfl

/-- The batch of a grid point. -/
def batch (t : Fin cfg0.N) : Fin 4 := ⟨t.val / 3, by have h : t.val < 12 := N_0 ▸ t.isLt; omega⟩
/-- The group of queries of a grid point. -/
def group (t : Fin cfg0.N) : Fin 3 := ⟨t.val % 3, Nat.mod_lt _ (by decide)⟩
/-- A query of its batch, from its group and its place in the group. -/
def query (j : Fin 3) (g : Fin 5) : Fin 15 := ⟨5 * j.val + g.val, by omega⟩

/-- The block indices of the query window. -/
theorem index0 : ∀ t : Fin grid0.N, win0_0.index t 0 = t.val / 3 ∧ win0_0.index t 1 = t.val % 3 ∧ win0_0.index t 2 = 0
    ∧ win0_0.index t 3 = 0 := by decide +kernel
/-- The block indices of the support window. -/
theorem index1 : ∀ t : Fin grid0.N, win0_1.index t 0 = t.val / 3 ∧ win0_1.index t 1 = 0 ∧ win0_1.index t 2 = 0
    ∧ win0_1.index t 3 = 0 := by decide +kernel
/-- The block indices of the output window. -/
theorem index2 : ∀ t : Fin grid0.N, win0_2.index t 0 = t.val / 3 ∧ win0_2.index t 1 = t.val % 3 ∧ win0_2.index t 2 = 0
    ∧ win0_2.index t 3 = 0 := by decide +kernel

/-- The query block at a row: a patch of a query of the group. -/
theorem queryBlock_apply (c : Dev nD) (t : Fin cfg0.N) (g : Fin 5) (p : Fin 196) (d : Fin 384) :
    (iblk m c 0 t : S1x1x980x384.Idx → EReal) (ix4 0 0 (row g p) d) = queries m c (ix4 (batch t) (query (group t) g) p d) := by
  obtain ⟨h0, h1, h2, h3⟩ := index0 t
  have e : (iblk m c 0 t : S1x1x980x384.Idx → EReal) (ix4 0 0 (row g p) d)
      = (V m c main_v0 : S4x3x980x384.Idx → EReal) (ix4 (batch t) (group t) (row g p) d) := by
    unfold iblk
    rw [View.read_apply]
    refine congrArg (V m c main_v0 : S4x3x980x384.Idx → EReal) (funext fun a => Fin.ext ?_)
    match a with
    | ⟨0, _⟩ => show win0_0.index t 0 * 1 + 1 * 0 = t.val / 3; omega
    | ⟨1, _⟩ => show win0_0.index t 1 * 1 + 1 * 0 = t.val % 3; omega
    | ⟨2, _⟩ => show win0_0.index t 2 * 980 + 1 * (row g p).val = (row g p).val; omega
    | ⟨3, _⟩ => show win0_0.index t 3 * 384 + 1 * d.val = d.val; omega
  rw [e, V_queries]
  refine shapeCast_apply _ _ _ (ix4 (batch t) (query (group t) g) p d) ?_
  rw [Shape.rowMajor_val_four, Shape.rowMajor_val_four]
  show (((batch t).val * 15 + (5 * (group t).val + g.val)) * 196 + p.val) * 384 + d.val
    = (((batch t).val * 3 + (group t).val) * 980 + (196 * g.val + p.val)) * 384 + d.val
  ring

/-- The support block: the batch's support rows. -/
theorem supportBlock_apply (c : Dev nD) (t : Fin cfg0.N) (w : Fin 5) (j : Fin 980) (d : Fin 384) :
    (iblk m c 1 t : S1x5x980x384.Idx → EReal) (ix4 0 w j d) = support m c (ix4 (batch t) w j d) := by
  obtain ⟨h0, h1, h2, h3⟩ := index1 t
  rw [← V_support]
  unfold iblk
  rw [View.read_apply]
  refine congrArg (V m c main_v1 : S4x5x980x384.Idx → EReal) (funext fun a => Fin.ext ?_)
  match a with
  | ⟨0, _⟩ => show win0_1.index t 0 * 1 + 1 * 0 = t.val / 3; omega
  | ⟨1, _⟩ => show win0_1.index t 1 * 5 + 1 * w.val = w.val; omega
  | ⟨2, _⟩ => show win0_1.index t 2 * 980 + 1 * j.val = j.val; omega
  | ⟨3, _⟩ => show win0_1.index t 3 * 384 + 1 * d.val = d.val; omega

/-- The kernel's output array: the means, five queries to a group. -/
def means (c : Dev nD) : S4x3x5x5.Idx → EReal :=
  fun i => Spec.mean (queries m c) (support m c) (i 0) (query (i 1) (i 2)) (i 3)

/-- The body's output block at a grid point, at an index. -/
theorem out_apply (c : Dev nD) (t : Fin cfg0.N) (g w : Fin 5) :
    out0_2 (F := Ideal) (iblk m c 0 t) (iblk m c 1 t) (ix4 0 0 g w) = means m c (ix4 (batch t) (group t) g w) := by
  refine (Block.block_apply (iblk m c 0 t) (iblk m c 1 t) g w).trans ?_
  refine congrArg (· * _) (Finset.sum_congr rfl fun p _ => congrArg peel (funext fun j => ?_))
  refine Finset.sum_congr rfl fun d _ => ?_
  exact congrArg₂ (· * ·) (supportBlock_apply m c t w j d) (queryBlock_apply m c t g p d)

/-- What each grid point writes back: its block of the means. -/
theorem flushed_eq (c : Dev nD) (t : Fin cfg0.N) :
    (dats m 0 c).flushed 2 t = ((cfg0.win 2).blk t).view.read (Elt Ideal) (means m c : Buf (Elt Ideal) ((c : Thread nD τ).loc main_v2)) := by
  obtain ⟨h0, h1, h2, h3⟩ := index2 t
  show (cfg0.win 2).cut (grid0.coords t) ((dats m 0 c).after 2 t) = _
  rw [after0_2]
  funext i
  obtain ⟨z, z', g, w, rfl⟩ : ∃ (z z' : Fin 1) (g w : Fin 5), i = (ix4 z z' g w : S1x1x5x5.Idx) := ⟨i 0, i 1, i 2, i 3, eq_ix4 (n0 := 1) (n1 := 1) (n2 := 5) (n3 := 5) i⟩
  obtain rfl : z = 0 := Subsingleton.elim _ _
  obtain rfl : z' = 0 := Subsingleton.elim _ _
  rw [View.read_apply]
  refine (out_apply m c t g w).trans ?_
  refine congrArg (means m c) (funext fun a => Fin.ext ?_)
  match a with
  | ⟨0, _⟩ => show t.val / 3 = win0_2.index t 0 * 1 + 1 * 0; omega
  | ⟨1, _⟩ => show t.val % 3 = win0_2.index t 1 * 1 + 1 * 0; omega
  | ⟨2, _⟩ => show g.val = win0_2.index t 2 * 5 + 1 * g.val; omega
  | ⟨3, _⟩ => show w.val = win0_2.index t 3 * 5 + 1 * w.val; omega

/-- The output array after the last grid point: the means. -/
theorem final (c : Dev nD) : (dats m 0 c).arrAt 2 cfg0.N = (means m c : Buf (Elt Ideal) ((c : Thread nD τ).loc main_v2)) :=
  (dats m 0 c).arrAt_eq_of_cover 2 _ (fun t _ => flushed_eq m c t) fun i => by
    have i0 : (i 0 : Nat) < 4 := (i 0).isLt
    have i1 : (i 1 : Nat) < 3 := (i 1).isLt
    have i2 : (i 2 : Nat) < 5 := (i 2).isLt
    have i3 : (i 3 : Nat) < 5 := (i 3).isLt
    have inGrid : 3 * (i 0 : Nat) + (i 1 : Nat) < cfg0.N := by rw [show cfg0.N = 12 from N_0]; omega
    let t : Fin cfg0.N := ⟨3 * (i 0 : Nat) + (i 1 : Nat), inGrid⟩
    obtain ⟨h0, h1, h2, h3⟩ := index2 t
    have tv : t.val = 3 * (i 0 : Nat) + (i 1 : Nat) := rfl
    refine ⟨t, (by decide +kernel : ∀ t : Fin grid0.N, (cfg0.win 2).flush t = true) t, ?_⟩
    show i ∈ ((View.whole main_v2).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; omega
    | ⟨1, _⟩ => show win0_2.index t 1 * 1 ≤ (i 1 : Nat) ∧ (i 1 : Nat) < win0_2.index t 1 * 1 + 1; omega
    | ⟨2, _⟩ => show win0_2.index t 2 * 5 ≤ (i 2 : Nat) ∧ (i 2 : Nat) < win0_2.index t 2 * 5 + 5; omega
    | ⟨3, _⟩ => show win0_2.index t 3 * 5 ≤ (i 3 : Nat) ∧ (i 3 : Nat) < win0_2.index t 3 * 5 + 5; omega

/-- The means laid out as 60 queries by 5 ways are the result of the specification. -/
theorem reshaped (c : Dev nD) :
    shapeCast S60x5 (means m c) shapeCasts_S4x3x5x5_S60x5 = Spec.result (queries m c) (support m c) := by
  funext i
  obtain ⟨n, w, rfl⟩ : ∃ (n : Fin 60) (w : Fin 5), i = ix2 n w := ⟨i 0, i 1, eq_ix2 i⟩
  have hn := n.isLt
  refine (shapeCast_apply _ _ _ (ix4 (Spec.batch n) (⟨n.val % 15 / 5, by omega⟩ : Fin 3) (⟨n.val % 5, by omega⟩ : Fin 5) w) ?_).trans ?_
  · rw [Shape.rowMajor_val_four, Shape.rowMajor_val_two]
    show ((n.val / 15 * 3 + n.val % 15 / 5) * 5 + n.val % 5) * 5 + w.val = n.val * 5 + w.val
    omega
  · refine congrArg (fun q => Spec.mean (queries m c) (support m c) (Spec.batch n) q w) (Fin.ext ?_)
    show 5 * (n.val % 15 / 5) + n.val % 5 = n.val % 15
    omega

/-- After the region, the last reshape leaves the result of the specification. -/
theorem tail_eq (c : Dev nD) :
    (Pipeline.afterTail₀ cfgs (dats m) 0 (V0 m) [hostOps1] c main_v3 : S60x5.Idx → EReal)
      = Spec.result (queries m c) (support m c) := by
  rw [← reshaped]
  unfold Pipeline.afterTail₀
  simp only [hostOps1, List.flatten_cons, List.flatten_nil, List.append_nil]
  after_results
  have e : Pipeline.withArrays (cfgs 0).spec c (V0 m c) (fun w => (dats m 0 c).arrAt w (cfgs 0).N) (Proc.devRef .tc main_v2)
      = (means m c : Buf (Elt Ideal) ((c : Thread nD τ).loc main_v2)) :=
    (Pipeline.withArrays_arr spec0 (by decide) c (V0 m c) (fun w => (dats m 0 c).arrAt w cfg0.N) 2).trans (final m c)
  rw [e]
  rfl

/-- The kernel's run: the result array at the specification, the arguments unchanged. -/
theorem run : θ_run defs (onTc (τ := τ) (main (F := Ideal))) ⟨m, fun _ => 0, ρ⟩ fun r => ∀ c : Dev nD,
      (r.2.mem ((c : Thread nD τ).loc main_v3) : S60x5.Idx → EReal) = Spec.result (queries m c) (support m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Array

end
-- ==== Proof.HostSide.lean ====
/-
  The reference: its result array read at an index, and its top-three stage read at an index.

  The reference multiplies, sorts each row of 980 products greater first, keeps three, adds the 196 × 3 values of each
  query and way and divides by 588. Under `Spec.Distinct` that is `Spec.result` (`reference_eq`); the precondition printed
  from the statement gives `Spec.Distinct` (`distinct_of_pre`).
-/
module

public import proofs.«01_k».proof.Proof.Spec
public import proofs.«01_k».proof.Proof.Gen.ReferenceIdeal.Read
public import proofs.«01_k».proof.Proof.Gen.Pre_top_three_distinct
public import Idealize.ShloMosaic.Lib.IdealHost
public import Idealize.ShloMosaic.Lib.ReduceAll
public import Idealize.ShloMosaic.Lib.Pointwise.Select
public import Idealize.ShloMosaic.Lib.Pipeline.Value

@[expose] public section

set_option maxRecDepth 16384

noncomputable section

namespace Cert.HostSide

open Idealize.ShloMosaic hiding ix0 ix1 ix2 ix3 ix4 ix5 eq_ix1 eq_ix2 eq_ix3 eq_ix4 eq_ix5
open Idealize.ShloMosaic.ValueIdx Cert.TopThree Cert.Spec
open Cert.ReferenceIdeal Cert.ReferenceIdeal.Gen Cert.ReferenceIdeal.Facts Cert.ReferenceIdeal.Read
open scoped BigOperators

/-- The top three of a rank-5 array along its last axis, at an index: an entry of the sorted row. -/
theorem topK_apply (x : S4x15x5x196x980.Idx → EReal) (h : S4x15x5x196x980.Slices (fun _ => 0) S4x15x5x196x3)
    (b : Fin 4) (q : Fin 15) (w : Fin 5) (p : Fin 196) (k : Fin 3) :
    (Host.topK S4x15x5x196x3 4 (FloatOps.cmpfTotal (F := Ideal) (φ := .f32) .gt) x h).1 (ix5 b q w p k)
      = sorted (fun r => x (ix5 b q w p r)) (k.castLE (by decide)) := by
  have along (j : S4x15x5x196x980.Idx) (r : Fin 980) :
      j.along (4 : Fin 5) r = ix5 (j 0) (j 1) (j 2) (j 3) r := by
    funext a
    match a with
    | ⟨0, _⟩ => rfl
    | ⟨1, _⟩ => rfl
    | ⟨2, _⟩ => rfl
    | ⟨3, _⟩ => rfl
    | ⟨4, _⟩ => rfl
  unfold Host.topK
  dsimp only
  refine (extractStridedSlice_apply _ _ _ _ (ix5 b q w p (k.castLE (by decide))) fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.zero_add _).symm
  unfold Host.sort2
  rw [dif_pos (show 4 < S4x15x5x196x980.rank by decide)]
  dsimp only
  refine (congrArg x (along _ _)).trans ?_
  unfold sorted before
  refine congrArg (fun f => x (ix5 b q w p (sortedFrom f (k.castLE (by decide))))) ?_
  funext i j
  exact congrArg₂ (fun s t => FloatOps.cmpfTotal (F := Ideal) (φ := .f32) .gt (x s) (x t) == 1#1) (along _ i) (along _ j)

variable (x0 : S4x15x196x384.Idx → EReal) (x1 : S4x5x5x196x384.Idx → EReal)

/-- The transposed products at an index: the row of dot products of `Spec.score`. -/
theorem products_apply (b : Fin 4) (q : Fin 15) (w : Fin 5) (p : Fin 196) (r : Fin 980) :
    val_main_v2 (F := Ideal) x0 x1 (ix5 b q w p r) = score x0 (val_main_v0 (F := Ideal) x1) b q w p r := by
  rw [val_main_v2_apply, val_main_v1_apply]
  refine Finset.sum_congr rfl fun d _ => ?_
  exact congrArg₂ (fun s t => val_main_v0 (F := Ideal) x1 s * x0 t) (eq_ix4 _) (eq_ix4 _)

/-- The top-three stage at an index. -/
theorem values_apply (b : Fin 4) (q : Fin 15) (w : Fin 5) (p : Fin 196) (k : Fin 3) :
    val_main_values (F := Ideal) x0 x1 (ix5 b q w p k)
      = sorted (score x0 (val_main_v0 (F := Ideal) x1) b q w p) (k.castLE (by decide)) := by
  unfold val_main_values
  rw [topK_apply]
  exact congrArg (fun f => sorted f _) (funext fun r => products_apply x0 x1 b q w p r)

/-- A sum over the indices of a 4 × 15 × 5 × 196 × 3 array that reduce to one index of 4 × 15 × 5: the double sum over the
    two axes reduced. -/
theorem sum_last_two (h : S4x15x5x196x3.ReducesTo [4, 3] S4x15x5) (x : S4x15x5x196x3.Idx → EReal)
    (b : Fin 4) (q : Fin 15) (w : Fin 5) :
    (∑ i ∈ Finset.univ.filter (fun i => h.drop i = ix3 b q w), x i) = ∑ p : Fin 196, ∑ k : Fin 3, x (ix5 b q w p k) := by
  have d0 (i) : (h.drop i 0).val = (i 0).val := h.drop_apply_val_of_eq i (0 : Fin 3) (0 : Fin 5) (by decide) (by decide)
  have d1 (i) : (h.drop i 1).val = (i 1).val := h.drop_apply_val_of_eq i (1 : Fin 3) (1 : Fin 5) (by decide) (by decide)
  have d2 (i) : (h.drop i 2).val = (i 2).val := h.drop_apply_val_of_eq i (2 : Fin 3) (2 : Fin 5) (by decide) (by decide)
  have back (i : S4x15x5x196x3.Idx) (hi : i ∈ Finset.univ.filter (fun i => h.drop i = ix3 b q w)) :
      ix5 b q w (i 3) (i 4) = i := by
    have e := (Finset.mem_filter.1 hi).2
    funext a
    refine Fin.ext ?_
    match a with
    | ⟨0, _⟩ => exact (congrArg (fun j : S4x15x5.Idx => (j 0).val) e).symm.trans (d0 i)
    | ⟨1, _⟩ => exact (congrArg (fun j : S4x15x5.Idx => (j 1).val) e).symm.trans (d1 i)
    | ⟨2, _⟩ => exact (congrArg (fun j : S4x15x5.Idx => (j 2).val) e).symm.trans (d2 i)
    | ⟨3, _⟩ => rfl
    | ⟨4, _⟩ => rfl
  rw [← Finset.sum_product' Finset.univ Finset.univ fun p k => x (ix5 b q w p k)]
  refine Finset.sum_nbij' (fun i => (i 3, i 4)) (fun pk => ix5 b q w pk.1 pk.2) ?_ ?_ back ?_ ?_
  · intro i _
    exact Finset.mem_product.2 ⟨Finset.mem_univ _, Finset.mem_univ _⟩
  · intro pk _
    refine Finset.mem_filter.2 ⟨Finset.mem_univ _, funext fun a => Fin.ext ?_⟩
    match a with
    | ⟨0, _⟩ => exact d0 _
    | ⟨1, _⟩ => exact d1 _
    | ⟨2, _⟩ => exact d2 _
  · intro pk _; rfl
  · intro i hi
    exact congrArg x (back i hi).symm

/-- The reduced sum at an index. -/
theorem sums_apply (b : Fin 4) (q : Fin 15) (w : Fin 5) :
    val_main_v3 (F := Ideal) x0 x1 (ix3 b q w) = ∑ p : Fin 196, ∑ k : Fin 3,
      sorted (score x0 (val_main_v0 (F := Ideal) x1) b q w p) (k.castLE (by decide)) := by
  unfold val_main_v3
  rw [hostReduceAdd_apply]
  unfold Ideal.hostReduceAdd
  rw [sum_last_two]
  have z : val_main_cst (F := Ideal) (Shape.Idx.first h_S_) = (0 : EReal) := Ideal.ofBits_zero .f32
  rw [z, zero_add]
  exact Finset.sum_congr rfl fun p _ => Finset.sum_congr rfl fun k _ => values_apply x0 x1 b q w p k

/-- Where the three greatest products of every row are distinct, the reference's result is `Spec.result`. -/
theorem reference_eq (hd : Distinct x0 (val_main_v0 (F := Ideal) x1)) :
    val_main_v6 (F := Ideal) x0 x1 = result x0 (val_main_v0 (F := Ideal) x1) := by
  funext i
  obtain ⟨n, w, rfl⟩ : ∃ (n : Fin 60) (w : Fin 5), i = ix2 n w := ⟨i 0, i 1, eq_ix2 i⟩
  have n588 : FloatOps.ofBits (F := Ideal) .f32 0x44130000#32 = ((588 : ℝ) : EReal) := by
    show Ideal.ofBits .f32 0x44130000#32 = _
    simp [Ideal.ofBits, Ideal.ieee, -EReal.coe_mul]; norm_num
  have at_ : idx_main_v6 (ix2 n w) = ix3 (batch n) (query n) w := by
    funext a
    refine Fin.ext ?_
    match a with
    | ⟨0, _⟩ => show (n.val * 5 + w.val) / 75 = n.val / 15; omega
    | ⟨1, _⟩ => show (n.val * 5 + w.val) / 5 % 15 = n.val % 15; omega
    | ⟨2, _⟩ => show (n.val * 5 + w.val) % 5 = w.val; omega
  rw [val_main_v6_apply, at_, val_main_v5_apply, val_main_v4_apply, val_main_cst_0_apply, n588, sums_apply]
  refine (Ideal.div_coe (by norm_num : (588 : ℝ) ≠ 0) _).trans ?_
  unfold result mean
  rw [show ((1 / 588 : ℝ) : EReal) = ((588⁻¹ : ℝ) : EReal) by rw [one_div]]
  refine congrArg (· * _) (Finset.sum_congr rfl fun p _ => ?_)
  obtain ⟨h₀, h₁⟩ := hd (batch n) (query n) w p
  rw [peel_eq_sorted _ (k₀ := 0) (k₁ := 1) (k₂ := 2) rfl rfl rfl h₀ h₁, Fin.sum_univ_three]
  rfl

/-- The comparison of two of the top three, as the precondition spells it, at an index. -/
theorem greater_apply (x : S4x15x5x196x3.Idx → EReal) (o o' : Fin 5 → Nat)
    (h : S4x15x5x196x3.Slices o Cert.Pre_top_three_distinct.S4x15x5x196x1)
    (h' : S4x15x5x196x3.Slices o' Cert.Pre_top_three_distinct.S4x15x5x196x1)
    (c : Cert.Pre_top_three_distinct.S4x15x5x196x1.ShapeCasts Cert.Pre_top_three_distinct.S4x15x5x196)
    (k k' : Fin 3) (ho : o = ![0, 0, 0, 0, k.val]) (ho' : o' = ![0, 0, 0, 0, k'.val])
    (b : Fin 4) (q : Fin 15) (w : Fin 5) (p : Fin 196)
    (e : cmpf (F := Ideal) (φ := .f32) .ogt (shapeCast _ (extractStridedSlice _ o x h) c)
      (shapeCast _ (extractStridedSlice _ o' x h') c) (ix4 b q w p) = 1#1) :
    x (ix5 b q w p k') < x (ix5 b q w p k) := by
  have cut (o : Fin 5 → Nat) (h : S4x15x5x196x3.Slices o Cert.Pre_top_three_distinct.S4x15x5x196x1) (k : Fin 3)
      (ho : o = ![0, 0, 0, 0, k.val]) : shapeCast _ (extractStridedSlice _ o x h) c (ix4 b q w p) = x (ix5 b q w p k) := by
    subst ho
    refine (shapeCast_apply _ _ _ (ix5 b q w p (0 : Fin 1)) ?_).trans
      (extractStridedSlice_apply _ _ _ _ (ix5 b q w p k) fun a => ?_)
    · rw [Shape.rowMajor_val_five, Shape.rowMajor_val_four]
      show ((((b.val * 15 + q.val) * 5 + w.val) * 196 + p.val) * 1 + 0) = ((b.val * 15 + q.val) * 5 + w.val) * 196 + p.val
      omega
    · match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.add_zero _).symm
  rw [cmpf_apply, cut o h k ho, cut o' h' k' ho'] at e
  exact (Ideal.cmp_ogt_eq_one _ _).1 e

/-- The precondition read: the three greatest products of every row are distinct. -/
theorem distinct_of_pre (h : Cert.Pre_top_three_distinct.fn (F := Ideal) x0 x1 = fun _ => 1#1) :
    Distinct x0 (val_main_v0 (F := Ideal) x1) := by
  intro b q w p
  have e := congrFun h ix0
  unfold Cert.Pre_top_three_distinct.fn at e
  dsimp only at e
  have a := Host.reduce_andi_all _ _ _ _ _ e (ix4 b q w p)
  rw [andi_apply] at a
  have two : ∀ s t : BitVec 1, IntOp.andi s t = 1#1 → s = 1#1 ∧ t = 1#1 := by decide
  obtain ⟨a₀, a₁⟩ := two _ _ a
  have g₀ := greater_apply (val_main_values (F := Ideal) x0 x1) _ _ _ _ _ 0 1 rfl rfl b q w p a₀
  have g₁ := greater_apply (val_main_values (F := Ideal) x0 x1) _ _ _ _ _ 1 2 rfl rfl b q w p a₁
  rw [values_apply, values_apply] at g₀ g₁
  exact ⟨g₀, g₁⟩

end Cert.HostSide

end
-- ==== Proof.lean ====
/-
  The certificate: the four programs' facts, the frames of the kernel (at bits and over the extended reals) and of the
  reference, the change of the constant 1/588 into its exact value, and the equation of the kernel's result with the
  reference's. Both results are `Spec.result` of the arguments (Proof/Array.lean, Proof/HostSide.lean); the precondition
  gives the distinctness the reference's side takes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_top_three_distinct
public import proofs.«01_k».proof.Proof.Array
public import proofs.«01_k».proof.Proof.HostSide
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the kernel and the reference leave the same result. -/
theorem equation : Cert.algebraic_KernelIdeal_ReferenceIdeal_pre_top_three_distinct := by
  intro m g m' g' hpre hargs
  refine ⟨fun c => Cert.Spec.result (Cert.Array.queries m c) (Cert.Array.support m c), Cert.Array.run m g, ?_⟩
  refine (θ_run Cert.ReferenceIdeal.defs _ _).mono (fun r h c => ⟨(h c).1.trans ?_, (h c).2⟩)
    (Cert.ReferenceIdeal.Value.run (F := Ideal) m' g')
  rw [(hargs c).1, (hargs c).2]
  exact (Cert.ReferenceIdeal.Read.val_main_v6_eq _ _).trans
    (Cert.HostSide.reference_eq _ _ (Cert.HostSide.distinct_of_pre _ _ (hpre c)))

/-- Every claim of the certificate. -/
theorem claim : Cert.Claim :=
  ⟨Cert.Kernel.Gen.facts, Cert.KernelIdeal.Gen.facts, Cert.ReferenceIdeal.Gen.facts, Cert.Pre_top_three_distinct.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "inv_count" .f32 0x3ADEE95C#32 ((588⁻¹ : ℝ) : EReal) rfl,
    equation⟩

end Cert.Proof

end
